-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x2048x4096 : Shape := ⟨3, ![4, 2048, 4096]⟩
abbrev S64x4096 : Shape := ⟨2, ![64, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S64x4096 : S_.BroadcastsInDim S64x4096 (![] : Fin 0 → Fin S64x4096.rank)
  reducesTo_S64x4096_S_d0_1 : S64x4096.ReducesTo [0, 1] S_

variable [Facts]

def fn {F : FTy → Type} [FloatOps F] (main_arg0 : FVec F S4x2048x4096 .f32) (main_arg1 : FVec F S64x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  main_v8
-- ==== Kernel.lean ====
abbrev S4x2048x4096 : Shape := ⟨3, ![4, 2048, 4096]⟩
abbrev S64x4096 : Shape := ⟨2, ![64, 4096]⟩
abbrev S8192x4096 : Shape := ⟨2, ![8192, 4096]⟩
abbrev S8192x8 : Shape := ⟨2, ![8192, 8]⟩
abbrev S1024x4096 : Shape := ⟨2, ![1024, 4096]⟩
abbrev S1024x8 : Shape := ⟨2, ![1024, 8]⟩
abbrev S256x4096 : Shape := ⟨2, ![256, 4096]⟩
abbrev S64x256 : Shape := ⟨2, ![64, 256]⟩
abbrev S256 : Shape := ⟨1, ![256]⟩
abbrev S1x256 : Shape := ⟨2, ![1, 256]⟩
abbrev S8x256 : Shape := ⟨2, ![8, 256]⟩
abbrev S256x8 : Shape := ⟨2, ![256, 8]⟩

abbrev nBuf : Space → Nat
  | .hbm => 5
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S64x4096, .f32⟩
  | .hbm, ⟨2, _⟩ => ⟨S8192x4096, .f32⟩
  | .hbm, ⟨3, _⟩ => ⟨S8192x8, .i32⟩
  | .hbm, ⟨4, _⟩ => ⟨S8192x8, .f32⟩
  | .local _ .vmem, ⟨0, _⟩ => ⟨S1024x4096, .f32⟩
  | .local _ .vmem, ⟨1, _⟩ => ⟨S1024x4096, .f32⟩
  | .local _ .vmem, ⟨2, _⟩ => ⟨S64x4096, .f32⟩
  | .local _ .vmem, ⟨3, _⟩ => ⟨S1024x8, .i32⟩
  | .local _ .vmem, ⟨4, _⟩ => ⟨S1024x8, .i32⟩
  | .local _ .vmem, ⟨5, _⟩ => ⟨S1024x8, .f32⟩
  | .local _ .vmem, ⟨6, _⟩ => ⟨S1024x8, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x8 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4x2048x4096 : Shape := ⟨3, ![4, 2048, 4096]⟩
abbrev S64x4096 : Shape := ⟨2, ![64, 4096]⟩
abbrev S8192x4096 : Shape := ⟨2, ![8192, 4096]⟩
abbrev S4096x64 : Shape := ⟨2, ![4096, 64]⟩
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S8192x8 : Shape := ⟨2, ![8192, 8]⟩

abbrev nBuf : Space → Nat
  | .hbm => 29
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S64x4096, .f32⟩
  | .hbm, ⟨2, _⟩ => ⟨S8192x4096, .f32⟩
  | .hbm, ⟨3, _⟩ => ⟨S4096x64, .f32⟩
  | .hbm, ⟨4, _⟩ => ⟨S8192x64, .f32⟩
  | .hbm, ⟨5, _⟩ => ⟨S_, .f32⟩
  | .hbm, ⟨6, _⟩ => ⟨S8192x64, .f32⟩
  | .hbm, ⟨7, _⟩ => ⟨S8192x64, .f32⟩
  | .hbm, ⟨8, _⟩ => ⟨S_, .f32⟩
  | .hbm, ⟨9, _⟩ => ⟨S8192, .f32⟩
  | .hbm, ⟨10, _⟩ => ⟨S_, .f32⟩
  | .hbm, ⟨11, _⟩ => ⟨S8192, .f32⟩
  | .hbm, ⟨12, _⟩ => ⟨S8192, .f32⟩
  | .hbm, ⟨13, _⟩ => ⟨S8192x1, .f32⟩
  | .hbm, ⟨14, _⟩ => ⟨S8192x64, .f32⟩
  | .hbm, ⟨15, _⟩ => ⟨S8192x64, .f32⟩
  | .hbm, ⟨16, _⟩ => ⟨S8192x64, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S8192x64, .f32⟩
  | .hbm, ⟨21, _⟩ => ⟨S8192x64, .f32⟩
  | .hbm, ⟨22, _⟩ => ⟨S8192x8, .f32⟩
  | .hbm, ⟨23, _⟩ => ⟨S8192x8, .i32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S8192x8, .f32⟩
  | .hbm, ⟨28, _⟩ => ⟨S8192x8, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_values : Ref sig .tc := ⟨.hbm, 22, rfl⟩
abbrev main_indices : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Proof.Block.lean ====
/-
  What the kernel computes for one chunk of 256 tokens, named step by step: the logits, the row of greatest values, the
  row of least positions that hold them, the logits with those positions masked, and after eight rounds the chunk's
  indices and weights. Every store of the kernel's body stores these of its chunk.
-/
module

public import proofs.«01_k».proof.Proof.Gen.KernelIdeal.Frame

@[expose] public section

noncomputable section

namespace Cert.KernelIdeal.Block

open Cert.KernelIdeal Cert.KernelIdeal.Gen Idealize.ShloMosaic

variable {F : FTy → Type} [FloatOps F]

/-- The logits of a chunk, one row per expert and one column per token. -/
def logits (w : Vec F S64x4096 .f32) (x : Vec F S256x4096 .f32) : FVec F S64x256 .f32 :=
  matmul dot_S64x4096_S256x4096_S64x256_1_1_0_0_n_n none w (shapeCast S256x4096 x shapeCasts_S256x4096_S256x4096)
    (constant S64x256 .f32 0x00000000#32)

/-- The number of the row, at every entry. -/
def rows : IVec S64x256 32 := iota .tc S64x256 32 [0] iota_S64x256_d0_w32

/-- The greatest value of each column. -/
def greatest (A : FVec F S64x256 .f32) : FVec F S1x256 .f32 :=
  shapeCast S1x256 (multiReduction .maximumf [0] S256 A 0xFF800000#32 reduces_S64x256_S256 (.inl rfl) rfl) shapeCasts_S256_S1x256

/-- The least row of each column that holds its greatest value. -/
def least (A : FVec F S64x256 .f32) : IVec S1x256 32 :=
  shapeCast S1x256 (multiReductionI .minsi [0] S256
    (select (cmpf .oeq A (broadcastTo S64x256 (greatest A) broadcasts_S1x256_S64x256)) rows (broadcast S64x256 64#32))
    2147483647#32 reduces_S64x256_S256 rfl) shapeCasts_S256_S1x256

/-- `A` with −∞ at that row of each column. -/
def next (A : FVec F S64x256 .f32) : FVec F S64x256 .f32 :=
  select (cmpi .eq rows (broadcastTo S64x256 (least A) broadcasts_S1x256_S64x256))
    (broadcast S64x256 (Scalar.ofBits .f32 0xFF800000#32)) A

/-- A start and what seven steps make of it. -/
def rounds {α : Type} (f : α → α) (a : α) : Fin 8 → α
  | 0 => a
  | 1 => f a
  | 2 => f (f a)
  | 3 => f (f (f a))
  | 4 => f (f (f (f a)))
  | 5 => f (f (f (f (f a))))
  | 6 => f (f (f (f (f (f a)))))
  | 7 => f (f (f (f (f (f (f a))))))

/-- Eight one-row arrays under one another. -/
def stack {α : Type} (f : Fin 8 → (S1x256.Idx → α)) : S8x256.Idx → α :=
  concatenate S8x256 0 [⟨S1x256, f 0⟩, ⟨S1x256, f 1⟩, ⟨S1x256, f 2⟩, ⟨S1x256, f 3⟩, ⟨S1x256, f 4⟩, ⟨S1x256, f 5⟩,
      ⟨S1x256, f 6⟩, ⟨S1x256, f 7⟩]
    concatenates_S1x256_S1x256_S1x256_S1x256_S1x256_S1x256_S1x256_S1x256_S8x256_d0

/-- The chunk's indices from its logits: the rounds' rows, one column per round. -/
def indices (A : FVec F S64x256 .f32) : IVec S256x8 32 :=
  transpose S256x8 [1, 0] (concatenate S8x256 0 [⟨S1x256, least A⟩, ⟨S1x256, least (next A)⟩, ⟨S1x256, least (next (next A))⟩,
      ⟨S1x256, least (next (next (next A)))⟩, ⟨S1x256, least (next (next (next (next A))))⟩,
      ⟨S1x256, least (next (next (next (next (next A)))))⟩, ⟨S1x256, least (next (next (next (next (next (next A))))))⟩,
      ⟨S1x256, least (next (next (next (next (next (next (next A)))))))⟩]
    concatenates_S1x256_S1x256_S1x256_S1x256_S1x256_S1x256_S1x256_S1x256_S8x256_d0) transposes_S8x256_p1_0_S256x8

/-- The rounds' greatest values, one row per round. -/
def values (A : FVec F S64x256 .f32) : FVec F S8x256 .f32 :=
  concatenate S8x256 0 [⟨S1x256, greatest A⟩, ⟨S1x256, greatest (next A)⟩, ⟨S1x256, greatest (next (next A))⟩,
      ⟨S1x256, greatest (next (next (next A)))⟩, ⟨S1x256, greatest (next (next (next (next A))))⟩,
      ⟨S1x256, greatest (next (next (next (next (next A)))))⟩, ⟨S1x256, greatest (next (next (next (next (next (next A))))))⟩,
      ⟨S1x256, greatest (next (next (next (next (next (next (next A)))))))⟩]
    concatenates_S1x256_S1x256_S1x256_S1x256_S1x256_S1x256_S1x256_S1x256_S8x256_d0

theorem indices_eq (A : FVec F S64x256 .f32) :
    indices A = transpose S256x8 [1, 0] (stack fun r => least (rounds next A r)) transposes_S8x256_p1_0_S256x8 := by
  unfold indices stack
  simp only [rounds]

theorem values_eq (A : FVec F S64x256 .f32) : values A = stack fun r => greatest (rounds next A r) := by
  unfold values stack
  simp only [rounds]

/-- The exponentials of the values less the first round's. -/
def exps (v : FVec F S8x256 .f32) : FVec F S8x256 .f32 :=
  exp (subf v (broadcastTo S8x256 (extractStridedSlice S1x256 ![0, 0] v slices_S8x256_o0_0_S1x256) broadcasts_S1x256_S8x256))

/-- Each column divided by its sum. -/
def normed (E : FVec F S8x256 .f32) : FVec F S8x256 .f32 :=
  divf E (broadcastTo S8x256 (shapeCast S1x256 (multiReduction .add [0] S256 E 0x00000000#32 reduces_S8x256_S256 (.inl rfl) rfl)
    shapeCasts_S256_S1x256) broadcasts_S1x256_S8x256)

/-- The chunk's weights from its logits. -/
def weights (A : FVec F S64x256 .f32) : FVec F S256x8 .f32 :=
  transpose S256x8 [1, 0] (normed (exps (values A))) transposes_S8x256_p1_0_S256x8

/-- The body's first output block: the four chunks' indices, one store each. -/
theorem out0_2_eq (x0 : Vec F S1024x4096 .f32) (x1 : Vec F S64x4096 .f32) : out0_2 x0 x1
    = View.canon [⟨r0_8, indices (logits (View.ld x1 r0_0) (View.ld x0 r0_7))⟩,
        ⟨r0_6, indices (logits (View.ld x1 r0_0) (View.ld x0 r0_5))⟩,
        ⟨r0_4, indices (logits (View.ld x1 r0_0) (View.ld x0 r0_3))⟩,
        ⟨r0_2, indices (logits (View.ld x1 r0_0) (View.ld x0 r0_1))⟩] := rfl

/-- The body's second output block: the four chunks' weights, one store each. -/
theorem out0_3_eq (x0 : Vec F S1024x4096 .f32) (x1 : Vec F S64x4096 .f32) : out0_3 x0 x1
    = View.canon [⟨r0_8, weights (logits (View.ld x1 r0_0) (View.ld x0 r0_7))⟩,
        ⟨r0_6, weights (logits (View.ld x1 r0_0) (View.ld x0 r0_5))⟩,
        ⟨r0_4, weights (logits (View.ld x1 r0_0) (View.ld x0 r0_3))⟩,
        ⟨r0_2, weights (logits (View.ld x1 r0_0) (View.ld x0 r0_1))⟩] := rfl

end Cert.KernelIdeal.Block

end
-- ==== Proof.Select.lean ====
/-
  Choosing the greatest of finitely many extended reals over and over: take the greatest, at the least position that
  holds it, replace it by −∞, go on. What is chosen in round `r` is what stands at place `r` of the stable sort of the
  positions with the greater value first, as long as no value is −∞ and there are rounds no more than positions.
-/
module

public import Idealize.ShloMosaic.Lib.SortPrefix
public import Idealize.ShloMosaic.PureOps.Ideal.Laws

@[expose] public section

noncomputable section

namespace Cert.Select

open Idealize.ShloMosaic

variable {n : Nat}

/-- `e` is the least position at which `w` is greatest. -/
def IsFirst (w : Fin n → EReal) (e : Fin n) : Prop := (∀ p, w p ≤ w e) ∧ ∀ p, p < e → w p < w e

/-- Values at a positive number of positions have a least position of the greatest. -/
theorem exists_isFirst [NeZero n] (w : Fin n → EReal) : ∃ e, IsFirst w e := by
  obtain ⟨b, -, hb⟩ := Finset.exists_max_image Finset.univ w Finset.univ_nonempty
  have hne : (Finset.univ.filter fun e => w e = w b).Nonempty := ⟨b, by simp⟩
  have hmem := Finset.min'_mem _ hne
  have he : w (Finset.min' _ hne) = w b := (Finset.mem_filter.mp hmem).2
  refine ⟨Finset.min' _ hne, fun p => (hb p (Finset.mem_univ p)).trans_eq he.symm, fun p hp => ?_⟩
  rw [he]
  refine lt_of_le_of_ne (hb p (Finset.mem_univ p)) fun h => ?_
  exact absurd (Finset.min'_le _ p (by simp [h])) (not_le.mpr hp)

variable [NeZero n]

/-- The least position at which `w` is greatest. -/
def first (w : Fin n → EReal) : Fin n := (exists_isFirst w).choose

theorem first_spec (w : Fin n → EReal) : IsFirst w (first w) := (exists_isFirst w).choose_spec

/-- The greatest value, as a fold of the maximum from −∞, is the value at `first`. -/
theorem fold_max_eq (w : Fin n → EReal) : Finset.univ.fold max ⊥ w = w (first w) := by
  refine le_antisymm (Finset.fold_max_le _ |>.mpr ⟨bot_le, fun p _ => (first_spec w).1 p⟩) ?_
  exact Finset.le_fold_max _ |>.mpr (Or.inr ⟨first w, Finset.mem_univ _, le_rfl⟩)

/-- `w` with its first greatest value replaced by −∞. -/
def mask (w : Fin n → EReal) : Fin n → EReal := fun e => if e = first w then ⊥ else w e

/-- What is left of `l` when `r` rounds are done. -/
def work (l : Fin n → EReal) (r : Nat) : Fin n → EReal := mask^[r] l

/-- The position chosen in round `r`. -/
def pick (l : Fin n → EReal) (r : Nat) : Fin n := first (work l r)

theorem work_zero (l : Fin n → EReal) : work l 0 = l := rfl

theorem work_succ (l : Fin n → EReal) (r : Nat) : work l (r + 1) = mask (work l r) :=
  Function.iterate_succ_apply' mask r l

/-- A position chosen in an earlier round holds −∞. -/
theorem work_of_picked (l : Fin n → EReal) (r : Nat) (e : Fin n) (h : ∃ q, q < r ∧ pick l q = e) : work l r e = ⊥ := by
  induction r with
  | zero => obtain ⟨q, hq, -⟩ := h; omega
  | succ r ih =>
    rw [work_succ]
    unfold mask
    split
    · rfl
    · next hne =>
      obtain ⟨q, hq, hqe⟩ := h
      refine ih ⟨q, ?_, hqe⟩
      rcases Nat.lt_succ_iff_lt_or_eq.mp hq with h | h
      · exact h
      · subst h; exact absurd hqe.symm hne

/-- A position no earlier round has chosen holds its value. -/
theorem work_of_not_picked (l : Fin n → EReal) (r : Nat) (e : Fin n) (h : ∀ q, q < r → pick l q ≠ e) :
    work l r e = l e := by
  induction r with
  | zero => rfl
  | succ r ih =>
    rw [work_succ]
    unfold mask
    rw [if_neg fun he => h r (Nat.lt_succ_self r) he.symm]
    exact ih fun q hq => h q (Nat.lt_succ_of_lt hq)

variable (l : Fin n → EReal) (hl : ∀ e, l e ≠ ⊥)
include hl

/-- While a position is left, a round chooses one that no earlier round has chosen. -/
theorem pick_ne (r : Nat) (hr : r < n) (q : Nat) (hq : q < r) : pick l q ≠ pick l r := by
  classical
  intro h
  obtain ⟨e, he⟩ : ∃ e : Fin n, ∀ p, p < r → pick l p ≠ e := by
    by_contra hall
    push Not at hall
    have hsub : (Finset.univ : Finset (Fin n)) ⊆ (Finset.range r).image (pick l) := fun e _ => by
      obtain ⟨p, hp, hpe⟩ := hall e
      exact Finset.mem_image.mpr ⟨p, Finset.mem_range.mpr hp, hpe⟩
    have hc := (Finset.card_le_card hsub).trans Finset.card_image_le
    rw [Finset.card_univ, Fintype.card_fin, Finset.card_range] at hc
    omega
  have h1 : work l r (pick l r) = ⊥ := work_of_picked l r _ ⟨q, hq, h⟩
  have h2 : work l r e ≤ work l r (pick l r) := (first_spec (work l r)).1 e
  rw [h1, work_of_not_picked l r e he] at h2
  exact hl e (le_bot_iff.mp h2)

/-- The greatest value left in round `r` is the value at the position chosen. -/
theorem fold_max_work (r : Nat) (hr : r < n) : Finset.univ.fold max ⊥ (work l r) = l (pick l r) := by
  rw [fold_max_eq]
  exact work_of_not_picked l r _ fun q hq => pick_ne l hl r hr q hq

/-- Of a position chosen later or never, the value is no greater than at one chosen, and where the two are equal the
    chosen position is the lesser. -/
theorem pick_before (r : Nat) (hr : r < n) (p : Fin n) (hp : ∀ q, q < r → pick l q ≠ p) :
    l p ≤ l (pick l r) ∧ (p < pick l r → l p < l (pick l r)) := by
  have e : work l r (pick l r) = l (pick l r) := work_of_not_picked l r _ fun q hq => pick_ne l hl r hr q hq
  have s := first_spec (work l r)
  refine ⟨?_, fun h => ?_⟩
  · have := s.1 p
    rwa [work_of_not_picked l r p hp, show first (work l r) = pick l r from rfl, e] at this
  · have := s.2 p h
    rwa [work_of_not_picked l r p hp, show first (work l r) = pick l r from rfl, e] at this

omit hl

/-- "Greater value first, and of two equal values the lesser position first". -/
def ahead (k : Fin n → EReal) (a b : Fin n) : Bool := decide (k b < k a) || (decide (k a = k b) && decide (a < b))

omit [NeZero n] in
theorem ahead_total (k : Fin n → EReal) : StrictTotalBefore (ahead k) :=
  StrictTotalBefore.of_key_then_position (fun x y => decide (y < x)) k (fun a => by simp)
    (fun a b c h₁ h₂ => by simp only [decide_eq_true_eq] at *; exact h₂.trans h₁)
    (fun a b => by simp only [decide_eq_true_eq]; exact (lt_trichotomy b a).imp_right (Or.imp_left Eq.symm))

omit [NeZero n] in
/-- Sorting a list of ascending positions stably by the value alone is sorting it by the value and then the position. -/
theorem stableSort_value_eq (k : Fin n → EReal) (L : List (Fin n)) (hL : L.Pairwise (· < ·)) :
    stableSort (fun a b => decide (k b < k a)) L = stableSort (ahead k) L := by
  induction L with
  | nil => rfl
  | cons a L ih =>
    rw [List.pairwise_cons] at hL
    unfold stableSort
    rw [ih hL.2]
    refine insertBefore_congr _ _ a _ fun b hb => ?_
    have hab : a < b := hL.1 b ((perm_stableSort (ahead k) L).mem_iff.mp hb)
    unfold ahead
    rw [decide_eq_false (p := b < a) (not_lt.mpr hab.le), Bool.and_false, Bool.or_false]

omit [NeZero n] in
theorem sortedFrom_value_eq (k : Fin n → EReal) :
    sortedFrom (fun a b : Fin n => decide (k b < k a)) = sortedFrom (ahead k) := by
  funext r
  unfold sortedFrom
  have : sortPositions n (fun a b : Fin n => decide (k b < k a)) = sortPositions n (ahead k) :=
    stableSort_value_eq k _ (List.pairwise_lt_finRange n)
  rw [List.get_of_eq this]
  rfl

include hl

/-- THE ROUNDS ARE THE SORT: for a key that orders the positions as `l` does, place `r` of the stable sort by greater key
    is the position that round `r` chooses. -/
theorem sortedFrom_eq_pick (k : Fin n → EReal) (hk : ∀ a b, k b < k a ↔ l b < l a) (r : Fin n) :
    sortedFrom (fun a b : Fin n => decide (k b < k a)) r = pick l r.val := by
  have e : (fun a b : Fin n => decide (k b < k a)) = fun a b => decide (l b < l a) := by
    funext a b; exact decide_eq_decide.mpr (hk a b)
  rw [e, sortedFrom_value_eq]
  have hb : ∀ (i : Fin n) (p : Fin n), (∀ q, q < i.val → pick l q ≠ p) → ahead l p (pick l i.val) = false := fun i p hp => by
    obtain ⟨h1, h2⟩ := pick_before l hl i.val i.isLt p hp
    unfold ahead
    rw [decide_eq_false (not_lt.mpr h1), Bool.false_or, Bool.and_eq_false_iff, decide_eq_false_iff_not, decide_eq_false_iff_not]
    by_cases h : p < pick l i.val
    · exact Or.inl (h2 h).ne
    · exact Or.inr h
  refine (ahead_total l).sortedFrom_eq_of_prefix le_rfl (fun i : Fin n => pick l i.val) (fun i j hij => ?_) (fun i j hij => ?_)
    (fun i p hp => hb i p fun q hq => hp ⟨q, hq.trans i.isLt⟩) r
  · rcases lt_trichotomy i.val j.val with h | h | h
    · exact absurd hij (pick_ne l hl j.val j.isLt i.val h)
    · exact Fin.ext h
    · exact absurd hij.symm (pick_ne l hl i.val i.isLt j.val h)
  · exact hb i _ fun q hq => pick_ne l hl j.val j.isLt q (hq.trans hij)

end Cert.Select

end
-- ==== Proof.Weights.lean ====
/-
  The weights of one token, over the reals: the softmax of its logits taken at chosen positions and divided by its sum
  there is the exponential of the logits less the greatest one, taken at the same positions and divided by its sum.
-/
module

public import Idealize.ShloMosaic.PureOps.Ideal.Laws

@[expose] public section

noncomputable section

namespace Cert.Weights

open Idealize.ShloMosaic

/-- A sum of real numbers, taken among the extended reals, is a real number. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The quotient of two real numbers, the lower not zero, is the quotient of the reals. -/
theorem div_coe_coe (a : ℝ) {b : ℝ} (hb : b ≠ 0) : Ideal.div (a : EReal) (b : EReal) = ((a / b : ℝ) : EReal) := by
  rw [Ideal.div_coe hb, ← EReal.coe_mul, mul_one_div]

variable {n : Nat}

/-- The exponential of the logits less the number `M`. -/
def expo (l : Fin n → EReal) (M : EReal) (e : Fin n) : EReal := Ideal.exp (l e - M)

/-- The softmax of the logits `l` written with the number `M` taken off every logit. -/
def score (l : Fin n → EReal) (M : EReal) (e : Fin n) : EReal := Ideal.div (expo l M e) (∑ e', expo l M e')

/-- `f` at the `k` chosen positions, divided by its sum there. -/
def shareOf {k : Nat} (f : Fin n → EReal) (σ : Fin k → Fin n) (j : Fin k) : EReal := Ideal.div (f (σ j)) (∑ i, f (σ i))

section Real

variable (x : Fin n → ℝ) (M : ℝ)

theorem expo_coe (e : Fin n) : expo (fun e => (x e : EReal)) (M : EReal) e = ((Real.exp (x e - M) : ℝ) : EReal) := by
  unfold expo
  rw [← EReal.coe_sub, Ideal.exp_coe]

theorem sum_exp_pos [NeZero n] : 0 < ∑ e, Real.exp (x e - M) :=
  Finset.sum_pos (fun _ _ => Real.exp_pos _) Finset.univ_nonempty

theorem score_coe [NeZero n] (e : Fin n) :
    score (fun e => (x e : EReal)) (M : EReal) e = ((Real.exp (x e - M) / ∑ e', Real.exp (x e' - M) : ℝ) : EReal) := by
  unfold score
  simp only [expo_coe]
  rw [coe_sum, div_coe_coe _ (sum_exp_pos x M).ne']

/-- The softmax orders the positions as the logits do. -/
theorem score_lt_iff [NeZero n] (a b : Fin n) :
    score (fun e => (x e : EReal)) (M : EReal) b < score (fun e => (x e : EReal)) (M : EReal) a ↔ (x b : EReal) < (x a : EReal) := by
  rw [score_coe, score_coe, EReal.coe_lt_coe_iff, EReal.coe_lt_coe_iff, div_lt_div_iff_of_pos_right (sum_exp_pos x M),
    Real.exp_lt_exp, sub_lt_sub_iff_right]

/-- THE EQUATION OF THE WEIGHTS: the common denominator of the softmax cancels. -/
theorem shareOf_score [NeZero n] {k : Nat} [NeZero k] (σ : Fin k → Fin n) (j : Fin k) :
    shareOf (score (fun e => (x e : EReal)) (M : EReal)) σ j = shareOf (expo (fun e => (x e : EReal)) (M : EReal)) σ j := by
  unfold shareOf
  simp only [score_coe, expo_coe]
  have hZ := (sum_exp_pos x M).ne'
  have hS : (∑ i, Real.exp (x (σ i) - M)) ≠ 0 := (sum_exp_pos (fun i => x (σ i)) M).ne'
  rw [coe_sum, coe_sum, ← Finset.sum_div, div_coe_coe _ (div_ne_zero hS hZ), div_coe_coe _ hS, div_div_div_cancel_right₀ hZ]

end Real

end Cert.Weights

end
-- ==== Proof.Chunk.lean ====
/-
  One chunk of the kernel, read at an index over the extended reals: of every column the eight rounds choose, in turn, the
  row of the greatest value not yet chosen, and the weights are the shares of the exponentials at the chosen rows.
-/
module

public import proofs.«01_k».proof.Proof.Block
public import proofs.«01_k».proof.Proof.Select
public import proofs.«01_k».proof.Proof.Weights
public import Idealize.ShloMosaic.Lib.ValueIdx
public import Idealize.ShloMosaic.Lib.Pipeline.Value

@[expose] public section

noncomputable section

namespace Cert.KernelIdeal.Block

open Cert.KernelIdeal Cert.KernelIdeal.Gen Idealize.ShloMosaic Idealize.ShloMosaic.ValueIdx
open Cert.Select Cert.Weights

/-- The word of −∞ names −∞. -/
theorem ofBits_neg_inf : Ideal.ofBits .f32 0xFF800000#32 = ⊥ := by simp [Ideal.ofBits, Ideal.ieee]

/-- A number below 64, as a word, is that number. -/
theorem toInt_row (e : Fin 64) : (BitVec.ofNat 32 e.val).toInt = (e.val : Int) := by revert e; decide

theorem row_inj (a b : Fin 64) : BitVec.ofNat 32 a.val = BitVec.ofNat 32 b.val ↔ a = b := by
  refine ⟨fun h => ?_, fun h => h ▸ rfl⟩
  have := congrArg BitVec.toInt h
  rw [toInt_row, toInt_row] at this
  exact Fin.ext (by omega)

theorem toInt_minsi (x y : BitVec 32) : (IKind.minsi.op x y).toInt = min x.toInt y.toInt := by
  show (if x.slt y then x else y).toInt = _
  rw [BitVec.slt_eq_decide]
  by_cases h : x.toInt < y.toInt
  · simp [h, min_eq_left h.le]
  · simp [h, min_eq_right (not_lt.mp h)]

/-- The least row number among the rows that hold the greatest value is that of the first such row. -/
theorem fold_min_rows (w : Fin 64 → EReal) (f : Fin 64 → BitVec 32)
    (hf : ∀ e, f e = if w e = w (first w) then BitVec.ofNat 32 e.val else 64#32) :
    Finset.univ.fold IKind.minsi.op 2147483647#32 f = BitVec.ofNat 32 (first w).val := by
  refine BitVec.eq_of_toInt_eq ?_
  rw [← Finset.fold_hom (op := IKind.minsi.op) (op' := min) (m := BitVec.toInt) toInt_minsi, toInt_row]
  refine le_antisymm (Finset.fold_min_le _ |>.mpr (Or.inr ⟨first w, Finset.mem_univ _, ?_⟩))
    (Finset.le_fold_min _ |>.mpr ⟨?_, fun e _ => ?_⟩)
  · rw [hf, if_pos rfl, toInt_row]
  · have := (first w).isLt
    rw [show (2147483647#32).toInt = 2147483647 from by decide]; omega
  · rw [hf]
    by_cases h : w e = w (first w)
    · rw [if_pos h, toInt_row]
      have : ¬ e < first w := fun hlt => ((first_spec w).2 e hlt).ne h
      omega
    · rw [if_neg h, show (64#32).toInt = 64 from by decide]
      have := (first w).isLt
      omega

/-- A line of 256 and a row of 256 have their entries in the same order. -/
theorem line_row (t : Fin 256) : (S256.rowMajor (ix1 t)).val = (S1x256.rowMajor (ix2 0 t)).val := by
  refine (Shape.rowMajor_val_one (d := ![256]) (ix1 t)).trans (Eq.trans ?_ (Shape.rowMajor_val_two (d := ![1, 256]) (ix2 0 t)).symm)
  show t.val = 0 * 256 + t.val
  rw [Nat.zero_mul, Nat.zero_add]

theorem rows_apply (e : Fin 64) (t : Fin 256) : rows (ix2 e t) = BitVec.ofNat 32 e.val := by
  show BitVec.ofNat 32 (0 * 64 + e.val) = _
  rw [Nat.zero_mul, Nat.zero_add]

theorem rounds_eq {α : Type} (f : α → α) (a : α) (r : Fin 8) : rounds f a r = f^[r.val] a := by
  match r with
  | 0 | 1 | 2 | 3 | 4 | 5 | 6 | 7 => rfl

variable (A : FVec Ideal S64x256 .f32)

/-- Column `t` of a 64-row array. -/
def col (t : Fin 256) (e : Fin 64) : EReal := A (ix2 e t)

theorem col_apply (t : Fin 256) (e : Fin 64) : col A t e = A (ix2 e t) := rfl

theorem greatest_apply (t : Fin 256) : greatest A (ix2 0 t) = col A t (first (col A t)) := by
  refine (shapeCast_apply _ _ (ix2 0 t) (ix1 t) (line_row t)).trans ?_
  refine (Ideal.multiReduction_maximumf_single A _ reduces_S64x256_S256 _ _ _).trans ?_
  rw [← fold_max_eq (col A t)]
  show Finset.univ.fold max (Ideal.ofBits .f32 0xFF800000#32) _ = _
  rw [ofBits_neg_inf]
  refine Finset.fold_congr fun e _ => ?_
  show A _ = A _
  congr 1
  funext a
  match a with
  | ⟨0, _⟩ => rfl
  | ⟨1, _⟩ => rfl

/-- A one-row array spread over 64 rows, read at an entry. -/
theorem spread_apply {α : Type} (x : S1x256.Idx → α) (e : Fin 64) (t : Fin 256) :
    broadcastTo S64x256 x broadcasts_S1x256_S64x256 (ix2 e t) = x (ix2 0 t) :=
  broadcastTo_apply _ _ _ _ fun a => match a with
    | ⟨0, _⟩ => rfl
    | ⟨1, _⟩ => rfl

theorem least_apply (t : Fin 256) : least A (ix2 0 t) = BitVec.ofNat 32 (first (col A t)).val := by
  refine (shapeCast_apply _ _ (ix2 0 t) (ix1 t) (line_row t)).trans ?_
  refine (multiReductionI_eq_fold .minsi _ _ reduces_S64x256_S256 _ _).trans ?_
  rw [Shape.Reduces.fold_filter_drop_single]
  refine fold_min_rows (col A t) _ fun e => ?_
  have hi : reduces_S64x256_S256.lift (ix1 t) e = ix2 e t := by
    funext a
    match a with
    | ⟨0, _⟩ => rfl
    | ⟨1, _⟩ => rfl
  show Scalar.select (Ideal.cmp .oeq (A _) (broadcastTo S64x256 (greatest A) broadcasts_S1x256_S64x256 _)) (rows _) 64#32 = _
  rw [hi, spread_apply, greatest_apply, rows_apply]
  show Scalar.select (BitVec.ofBool (decide (col A t e = _))) (BitVec.ofNat 32 e.val) 64#32 = _
  by_cases h : col A t e = col A t (first (col A t))
  · rw [decide_eq_true h, if_pos h]; rfl
  · rw [decide_eq_false h, if_neg h]; rfl

/-- Masking the array masks every column. -/
theorem col_next (t : Fin 256) : col (next A) t = mask (col A t) := by
  funext e
  have hc : cmpi .eq rows (broadcastTo S64x256 (least A) broadcasts_S1x256_S64x256) (ix2 e t)
      = BitVec.ofBool (BitVec.ofNat 32 e.val == BitVec.ofNat 32 (first (col A t)).val) := by
    unfold cmpi
    rw [spread_apply, least_apply, rows_apply]
    rfl
  refine (col_apply (next A) t e).trans ?_
  unfold next
  rw [select_apply, hc, broadcast_apply]
  change Scalar.select _ (Ideal.ofBits .f32 0xFF800000#32) (col A t e) = _
  rw [ofBits_neg_inf]
  unfold mask
  by_cases h : e = first (col A t)
  · rw [if_pos h, beq_iff_eq.mpr ((row_inj _ _).mpr h)]; rfl
  · rw [if_neg h, beq_eq_false_iff_ne.mpr fun hh => h ((row_inj _ _).mp hh)]; rfl

theorem col_next_iterate (r : Nat) (t : Fin 256) : col (next^[r] A) t = work (col A t) r := by
  induction r with
  | zero => rfl
  | succ r ih => rw [Function.iterate_succ_apply', col_next, ih, work_succ]

theorem col_rounds (r : Fin 8) (t : Fin 256) : col (rounds next A r) t = work (col A t) r.val := by
  rw [rounds_eq, col_next_iterate]

/-- Eight one-row arrays, given one for each round, put under one another and read at an entry. -/
theorem stack_apply {α : Type} (f : Fin 8 → (S1x256.Idx → α)) (r : Fin 8) (t : Fin 256) : stack f (ix2 r t) = f r (ix2 0 t) :=
  concatenate_ofFn_unit_apply (0 : Fin S8x256.rank) f
    concatenates_S1x256_S1x256_S1x256_S1x256_S1x256_S1x256_S1x256_S1x256_S8x256_d0 rfl rfl (ix2 r t) r rfl (ix2 0 t)
    fun b hb => match b with
    | ⟨0, _⟩ => absurd rfl hb
    | ⟨1, _⟩ => rfl

/-- THE CHUNK'S INDICES: at token `t` and place `r`, the row the `r`-th round chooses. -/
theorem indices_apply (t : Fin 256) (r : Fin 8) : indices A (ix2 t r) = BitVec.ofNat 32 (pick (col A t) r.val).val := by
  rw [indices_eq, transpose_apply _ _ _ (ix2 t r) (ix2 r t) (fun b => match b with
    | ⟨0, _⟩ => rfl
    | ⟨1, _⟩ => rfl), stack_apply, least_apply, col_rounds]
  rfl

/-- Where no logit is −∞, the `r`-th round's value is the logit at the row it chooses. -/
theorem values_apply (t : Fin 256) (hA : ∀ e, col A t e ≠ ⊥) (r : Fin 8) :
    values A (ix2 r t) = col A t (pick (col A t) r.val) := by
  rw [values_eq, stack_apply, greatest_apply, col_rounds, ← fold_max_eq (work (col A t) r.val)]
  exact fold_max_work _ hA _ (by have := r.isLt; omega)

/-- A one-row array spread over 8 rows, read at an entry. -/
theorem spread8_apply {α : Type} (x : S1x256.Idx → α) (r : Fin 8) (t : Fin 256) :
    broadcastTo S8x256 x broadcasts_S1x256_S8x256 (ix2 r t) = x (ix2 0 t) :=
  broadcastTo_apply _ _ _ _ fun a => match a with
    | ⟨0, _⟩ => rfl
    | ⟨1, _⟩ => rfl

theorem exps_apply (v : FVec Ideal S8x256 .f32) (r : Fin 8) (t : Fin 256) :
    exps v (ix2 r t) = Ideal.exp (v (ix2 r t) - v (ix2 0 t)) := by
  show Ideal.exp (v (ix2 r t) - broadcastTo S8x256 _ broadcasts_S1x256_S8x256 (ix2 r t)) = _
  rw [spread8_apply, extractStridedSlice_apply _ _ _ (ix2 0 t) (ix2 0 t) fun a => match a with
    | ⟨0, _⟩ => rfl
    | ⟨1, _⟩ => (Nat.zero_add _).symm]

theorem normed_apply (E : FVec Ideal S8x256 .f32) (r : Fin 8) (t : Fin 256) :
    normed E (ix2 r t) = Ideal.div (E (ix2 r t)) (∑ i : Fin 8, E (ix2 i t)) := by
  show Ideal.div (E (ix2 r t)) (broadcastTo S8x256 _ broadcasts_S1x256_S8x256 (ix2 r t)) = _
  rw [spread8_apply]
  refine congrArg (Ideal.div (E (ix2 r t))) ?_
  refine (shapeCast_apply _ _ (ix2 0 t) (ix1 t) (line_row t)).trans ?_
  refine (Ideal.multiReduction_add_single E _ reduces_S8x256_S256 _ _ _).trans ?_
  refine Finset.sum_congr rfl fun i _ => congrArg E ?_
  funext a
  match a with
  | ⟨0, _⟩ => rfl
  | ⟨1, _⟩ => rfl

/-- THE CHUNK'S WEIGHTS: where no logit is −∞, at token `t` and place `r`, the exponential of the logit the `r`-th round
    chooses less the first round's, divided by the sum of the eight. -/
theorem weights_apply (t : Fin 256) (hA : ∀ e, col A t e ≠ ⊥) (r : Fin 8) : weights A (ix2 t r)
    = shareOf (expo (col A t) (col A t (pick (col A t) 0))) (fun i : Fin 8 => pick (col A t) i.val) r := by
  unfold weights
  rw [transpose_apply _ _ _ (ix2 t r) (ix2 r t) (fun b => match b with
    | ⟨0, _⟩ => rfl
    | ⟨1, _⟩ => rfl), normed_apply]
  simp only [exps_apply, values_apply A t hA]
  rfl

/-- The logits of a chunk, read at an entry: the product of the expert's row and the token's. -/
theorem logits_apply (w : Vec Ideal S64x4096 .f32) (x : Vec Ideal S256x4096 .f32) (e : Fin 64) (t : Fin 256) :
    logits w x (ix2 e t) = ∑ k : Fin 4096, w (ix2 e k) * x (ix2 t k) := by
  unfold logits
  rw [shapeCast_self]
  refine (Ideal.matmul_constant_zero_apply dot_S64x4096_S256x4096_S64x256_1_1_0_0_n_n none w x (ix2 e t)).trans ?_
  refine Fintype.sum_equiv (contrEquiv1 dot_S64x4096_S256x4096_S64x256_1_1_0_0_n_n 4096 rfl rfl) _ _ fun k => ?_
  congr 2
  · funext a
    match a with
    | ⟨0, _⟩ => rfl
    | ⟨1, _⟩ => rfl
  · funext a
    match a with
    | ⟨0, _⟩ => rfl
    | ⟨1, _⟩ => rfl

end Cert.KernelIdeal.Block

end
-- ==== Proof.Router.lean ====
/-
  The router's results as functions of the tokens and the experts' weight rows, over the extended reals: of every token
  the eight experts chosen and their weights. Both programs compute these.
-/
module

public import proofs.«01_k».proof.Proof.Select
public import proofs.«01_k».proof.Proof.Weights
public import Idealize.ShloMosaic.Lib.ValueIdx

@[expose] public section

noncomputable section

namespace Cert.Router

open Idealize.ShloMosaic Idealize.ShloMosaic.ValueIdx Cert.Select Cert.Weights

/-- The expert at place `r` of a token with the logits `l`, as a word. -/
def expertAt (l : Fin 64 → EReal) (r : Fin 8) : BitVec 32 := BitVec.ofNat 32 (pick l r.val).val

/-- The weight at place `r` of a token with the logits `l`: the exponential of its logit less the greatest, divided by the
    sum of the eight. -/
def weightAt (l : Fin 64 → EReal) (r : Fin 8) : EReal := shareOf (expo l (l (pick l 0))) (fun i : Fin 8 => pick l i.val) r

variable {N : Nat} (X : (⟨2, ![N, 4096]⟩ : Shape).Idx → EReal) (W : (⟨2, ![64, 4096]⟩ : Shape).Idx → EReal)

/-- The logit of token `n` for expert `e`: the product of their rows. -/
def logit (n : Fin N) (e : Fin 64) : EReal := ∑ k : Fin 4096, W (ix2 e k) * X (ix2 n k)

/-- The experts of all tokens. -/
def experts (i : (⟨2, ![N, 8]⟩ : Shape).Idx) : BitVec 32 := expertAt (logit X W (i 0)) (i 1)

/-- The weights of all tokens. -/
def weights (i : (⟨2, ![N, 8]⟩ : Shape).Idx) : EReal := weightAt (logit X W (i 0)) (i 1)

end Cert.Router

end
-- ==== Proof.KernelValue.lean ====
/-
  What the kernel's two result arrays hold after the run, over the extended reals: the experts and the weights of the
  tokens. First one grid point's block of 1024 tokens, made of four chunks; then the arrays, made of the eight blocks.
-/
module

public import proofs.«01_k».proof.Proof.Gen.KernelIdeal.Value
public import proofs.«01_k».proof.Proof.Chunk
public import proofs.«01_k».proof.Proof.Router

@[expose] public section

noncomputable section

namespace Cert.KernelIdeal.Block

open Cert.KernelIdeal Cert.KernelIdeal.Gen Idealize.ShloMosaic Idealize.ShloMosaic.ValueIdx
open Idealize.ShloMosaic.TcCoe Idealize.SL.Sem
open Cert.Select Cert.Weights Cert.Router

/-! ## One block -/

section OneBlock

variable (x0 : Vec Ideal S1024x4096 .f32) (x1 : Vec Ideal S64x4096 .f32) (o : Nat)
  (hx : ∀ a, ![o, 0] a + S256x4096.size a ≤ S1024x4096.size a) (hy : ∀ a, ![o, 0] a + S256x8.size a ≤ S1024x8.size a)

/-- The logits of the chunk that begins at row `o` of a block are those of the block's tokens there. -/
theorem col_chunk (t : Fin 256) (n : Fin 1024) (hn : n.val = o + t.val) :
    col (logits (View.ld x1 r0_0) (View.ld x0 (Rect.unit (s := S1024x4096) ![o, 0] S256x4096.size hx))) t = logit x0 x1 n := by
  funext e
  rw [col_apply, logits_apply]
  refine Finset.sum_congr rfl fun k _ => congrArg₂ (· * ·) (congrArg x1 ?_) (congrArg x0 ?_) <;> funext a <;> apply Fin.ext
  · match a with
    | ⟨0, _⟩ => show 0 + 1 * e.val = e.val; omega
    | ⟨1, _⟩ => show 0 + 1 * k.val = k.val; omega
  · match a with
    | ⟨0, _⟩ => show o + 1 * t.val = n.val; omega
    | ⟨1, _⟩ => show 0 + 1 * k.val = k.val; omega

/-- The chunk's indices are the block's experts at the rows the chunk is stored to. -/
theorem indices_chunk (j : S256x8.Idx) :
    indices (logits (View.ld x1 r0_0) (View.ld x0 (Rect.unit (s := S1024x4096) ![o, 0] S256x4096.size hx))) j
      = experts x0 x1 ((Rect.unit (s := S1024x8) ![o, 0] S256x8.size hy).emb j) := by
  obtain ⟨t, r, rfl⟩ : ∃ t r, j = ix2 t r := ⟨j 0, j 1, eq_ix2 j⟩
  rw [indices_apply, col_chunk x0 x1 o hx t ((Rect.unit (s := S1024x8) ![o, 0] S256x8.size hy).emb (ix2 t r) 0)
    (by show o + 1 * t.val = _; omega)]
  show expertAt _ r = expertAt _ _
  congr 1
  apply Fin.ext
  show r.val = 0 + 1 * r.val
  omega

/-- The chunk's weights, where no logit is −∞, are the block's at the rows the chunk is stored to. -/
theorem weights_chunk (hl : ∀ n e, logit x0 x1 n e ≠ ⊥) (j : S256x8.Idx) :
    Block.weights (logits (View.ld x1 r0_0) (View.ld x0 (Rect.unit (s := S1024x4096) ![o, 0] S256x4096.size hx))) j
      = Router.weights x0 x1 ((Rect.unit (s := S1024x8) ![o, 0] S256x8.size hy).emb j) := by
  obtain ⟨t, r, rfl⟩ : ∃ t r, j = ix2 t r := ⟨j 0, j 1, eq_ix2 j⟩
  have hc := col_chunk x0 x1 o hx t ((Rect.unit (s := S1024x8) ![o, 0] S256x8.size hy).emb (ix2 t r) 0)
    (by show o + 1 * t.val = _; omega)
  rw [weights_apply _ _ (fun e => by rw [hc]; exact hl _ e), hc]
  show weightAt _ r = weightAt _ _
  congr 1
  apply Fin.ext
  show r.val = 0 + 1 * r.val
  omega

end OneBlock

/-- ONE BLOCK'S EXPERTS: the four stores of indices leave the experts of the block's tokens. -/
theorem out0_2_value (x0 : Vec Ideal S1024x4096 .f32) (x1 : Vec Ideal S64x4096 .f32) : out0_2 x0 x1 = experts x0 x1 := by
  rw [out0_2_eq]
  funext y
  refine View.canon_apply_of_pieces (Val := Elt Ideal) (experts x0 x1) _ (fun p hp => ?_) y (cover0_2 (F := Ideal) _ _ _ _ y)
  simp only [List.mem_cons, List.not_mem_nil, or_false] at hp
  rcases hp with rfl | rfl | rfl | rfl
  · exact indices_chunk x0 x1 768 _ inb_S1024x8_S256x8_768_0
  · exact indices_chunk x0 x1 512 _ inb_S1024x8_S256x8_512_0
  · exact indices_chunk x0 x1 256 _ inb_S1024x8_S256x8_256_0
  · exact indices_chunk x0 x1 0 _ inb_S1024x8_S256x8_0_0

/-- ONE BLOCK'S WEIGHTS: the four stores of weights leave those of the block's tokens. -/
theorem out0_3_value (x0 : Vec Ideal S1024x4096 .f32) (x1 : Vec Ideal S64x4096 .f32) (hl : ∀ n e, logit x0 x1 n e ≠ ⊥) :
    out0_3 x0 x1 = Router.weights x0 x1 := by
  rw [out0_3_eq]
  funext y
  refine View.canon_apply_of_pieces (Val := Elt Ideal) (Router.weights x0 x1) _ (fun p hp => ?_) y (cover0_3 (F := Ideal) _ _ _ _ y)
  simp only [List.mem_cons, List.not_mem_nil, or_false] at hp
  rcases hp with rfl | rfl | rfl | rfl
  · exact weights_chunk x0 x1 768 _ inb_S1024x8_S256x8_768_0 hl
  · exact weights_chunk x0 x1 512 _ inb_S1024x8_S256x8_512_0 hl
  · exact weights_chunk x0 x1 256 _ inb_S1024x8_S256x8_256_0 hl
  · exact weights_chunk x0 x1 0 _ inb_S1024x8_S256x8_0_0 hl

/-! ## The arrays -/

variable (m : (ℓ : Loc nD τ sig) → Buf (Elt Ideal) ℓ) (ρ : Dev nD → PrngReg)

/-- The tokens, one row each: the first argument's batch and position axes run together. -/
def tokens (c : Dev nD) : S8192x4096.Idx → EReal :=
  shapeCast S8192x4096 (m ((c : Thread nD τ).loc main_arg0)) shapeCasts_S4x2048x4096_S8192x4096

/-- The experts' rows: the second argument. -/
def rowsOf (c : Dev nD) : S64x4096.Idx → EReal := m ((c : Thread nD τ).loc main_arg1)

theorem V_main_v0 (c : Dev nD) : V m c main_v0 = tokens m c := rfl

/-- At every point of the grid the tokens' window and the two results' windows are at the point's own block, the experts'
    window at its one block. -/
theorem index_point : ∀ t : Fin grid0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0) := by
  decide +kernel

/-- Row `n` of point `t`'s block of tokens is row `1024·t + n` of the tokens. -/
theorem tokens_block (c : Dev nD) (t : Fin cfg0.N) (n : Fin 1024) (p : Fin 8192) (hp : p.val = t.val * 1024 + n.val) (k : Fin 4096) :
    (iblk m c 0 t : Vec Ideal S1024x4096 .f32) (ix2 n k) = tokens m c (ix2 p k) := by
  have hi := (index_point t).1
  unfold iblk
  rw [View.read_apply]
  show V m c main_v0 _ = _
  rw [V_main_v0]
  congr 1
  funext a
  apply Fin.ext
  match a with
  | ⟨0, _⟩ => show win0_0.index t 0 * 1024 + 1 * n.val = p.val; rw [hi.1]; omega
  | ⟨1, _⟩ => show win0_0.index t 1 * 4096 + 1 * k.val = k.val; rw [hi.2]; omega

/-- Every point's block of the experts' rows is all of them. -/
theorem rows_block (c : Dev nD) (t : Fin cfg0.N) (e : Fin 64) (k : Fin 4096) :
    (iblk m c 1 t : Vec Ideal S64x4096 .f32) (ix2 e k) = rowsOf m c (ix2 e k) := by
  have hi := (index_point t).2.1
  unfold iblk
  rw [View.read_apply]
  show V m c main_arg1 _ = _
  rw [V_main_arg1]
  unfold rowsOf
  congr 1
  funext a
  apply Fin.ext
  match a with
  | ⟨0, _⟩ => show win0_1.index t 0 * 64 + 1 * e.val = e.val; rw [hi.1]; omega
  | ⟨1, _⟩ => show win0_1.index t 1 * 4096 + 1 * k.val = k.val; rw [hi.2]; omega

/-- The logits of a block's tokens are the tokens' own. -/
theorem logit_block (c : Dev nD) (t : Fin cfg0.N) (n : Fin 1024) (p : Fin 8192) (hp : p.val = t.val * 1024 + n.val) :
    logit (iblk m c 0 t : Vec Ideal S1024x4096 .f32) (iblk m c 1 t : Vec Ideal S64x4096 .f32) n
      = logit (tokens m c) (rowsOf m c) p := by
  funext e
  unfold logit
  refine Finset.sum_congr rfl fun k _ => ?_
  rw [tokens_block m c t n p hp k, rows_block]

/-- WHAT A POINT WRITES BACK to the first result is its block of the tokens' experts. -/
theorem flushed2_value (c : Dev nD) (t : Fin cfg0.N) : (dats m 0 c).flushed 2 t
    = ((cfg0.win 2).blk t).view.read (Elt Ideal) (experts (tokens m c) (rowsOf m c)) := by
  rw [Value.flushed2, out0_2_value]
  have hi := (index_point t).2.2.1
  funext j
  rw [View.read_apply]
  show expertAt _ _ = expertAt _ _
  congr 1
  · refine logit_block m c t _ _ ?_
    show win0_2.index t 0 * 1024 + 1 * (j 0).val = t.val * 1024 + (j 0).val
    rw [hi.1]; omega
  · apply Fin.ext
    show (j 1).val = win0_2.index t 1 * 8 + 1 * (j 1).val
    rw [hi.2]; omega

/-- WHAT A POINT WRITES BACK to the second result, where no logit is −∞, is its block of the tokens' weights. -/
theorem flushed3_value (c : Dev nD) (hl : ∀ p e, logit (tokens m c) (rowsOf m c) p e ≠ ⊥) (t : Fin cfg0.N) :
    (dats m 0 c).flushed 3 t = ((cfg0.win 3).blk t).view.read (Elt Ideal) (Router.weights (tokens m c) (rowsOf m c)) := by
  have hN : t.val < 8 := t.isLt.trans_eq N_0
  rw [Value.flushed3, out0_3_value _ _ fun n e => by
    rw [logit_block m c t n ⟨t.val * 1024 + n.val, by have := n.isLt; omega⟩ rfl]; exact hl _ e]
  have hi := (index_point t).2.2.2
  funext j
  rw [View.read_apply]
  show weightAt _ _ = weightAt _ _
  congr 1
  · refine logit_block m c t _ _ ?_
    show win0_3.index t 0 * 1024 + 1 * (j 0).val = t.val * 1024 + (j 0).val
    rw [hi.1]; omega
  · apply Fin.ext
    show (j 1).val = win0_3.index t 1 * 8 + 1 * (j 1).val
    rw [hi.2]; omega

/-- The point whose block holds row `p`. -/
def pointOf (i : S8192x8.Idx) : Fin cfg0.N :=
  ⟨(i 0).val / 1024, by rw [show cfg0.N = 8 from N_0]; have : (i 0).val < 8192 := (i 0).isLt; omega⟩

/-- THE FIRST RESULT after the run: the tokens' experts. -/
theorem result2 (c : Dev nD) : (dats m 0 c).arrAt 2 cfg0.N = experts (tokens m c) (rowsOf m c) :=
  (dats m 0 c).arrAt_eq_of_cover 2 _ (fun t _ => flushed2_value m c t) fun i => ⟨pointOf i, flush0_2 _, by
    have hi := (index_point (pointOf i)).2.2.1
    show i ∈ ((View.whole main_v1_0).slice (win0_2.rect (pointOf i))).set
    rw [View.set_slice_whole, Rect.mem_set_unit]
    intro a
    have h1 : (i 1).val < 8 := (i 1).isLt
    have hp : (pointOf i).val = (i 0).val / 1024 := rfl
    match a with
    | ⟨0, _⟩ =>
      show win0_2.index (pointOf i) 0 * 1024 ≤ (i 0).val ∧ (i 0).val < win0_2.index (pointOf i) 0 * 1024 + 1024
      rw [hi.1]; omega
    | ⟨1, _⟩ =>
      show win0_2.index (pointOf i) 1 * 8 ≤ (i 1).val ∧ (i 1).val < win0_2.index (pointOf i) 1 * 8 + 8
      rw [hi.2]; omega⟩

/-- THE SECOND RESULT after the run, where no logit is −∞: the tokens' weights. -/
theorem result3 (c : Dev nD) (hl : ∀ p e, logit (tokens m c) (rowsOf m c) p e ≠ ⊥) :
    (dats m 0 c).arrAt 3 cfg0.N = Router.weights (tokens m c) (rowsOf m c) :=
  (dats m 0 c).arrAt_eq_of_cover 3 _ (fun t _ => flushed3_value m c hl t) fun i => ⟨pointOf i, flush0_3 _, by
    have hi := (index_point (pointOf i)).2.2.2
    show i ∈ ((View.whole main_v1_1).slice (win0_3.rect (pointOf i))).set
    rw [View.set_slice_whole, Rect.mem_set_unit]
    intro a
    have h1 : (i 1).val < 8 := (i 1).isLt
    have hp : (pointOf i).val = (i 0).val / 1024 := rfl
    match a with
    | ⟨0, _⟩ =>
      show win0_3.index (pointOf i) 0 * 1024 ≤ (i 0).val ∧ (i 0).val < win0_3.index (pointOf i) 0 * 1024 + 1024
      rw [hi.1]; omega
    | ⟨1, _⟩ =>
      show win0_3.index (pointOf i) 1 * 8 ≤ (i 1).val ∧ (i 1).val < win0_3.index (pointOf i) 1 * 8 + 8
      rw [hi.2]; omega⟩

/-- THE KERNEL'S RUN, where no logit is −∞: the experts and the weights of the tokens, the arguments as they were. -/
theorem run_value (hl : ∀ c p e, logit (tokens m c) (rowsOf m c) p e ≠ ⊥) :
    θ_run defs (onTc (τ := τ) (main (F := Ideal))) ⟨m, fun _ => 0, ρ⟩ fun r => ∀ c : Dev nD,
      r.2.mem ((c : Thread nD τ).loc main_v1_0) = experts (tokens m c) (rowsOf m c)
      ∧ r.2.mem ((c : Thread nD τ).loc main_v1_1) = Router.weights (tokens m c) (rowsOf m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (result2 m c), (h c).2.1.trans (result3 m c (hl c)), (h c).2.2⟩)
    (Value.run_blocks m ρ)

end Cert.KernelIdeal.Block

end
-- ==== Proof.RefValue.lean ====
/-
  What the reference computes, over the extended reals and where every logit is a real number: the experts and the weights
  of the tokens. The softmax orders a token's experts as its logits do, so the sort by softmax chooses what the rounds
  choose; the eight softmax values divided by their sum are the weights.
-/
module

public import proofs.«01_k».proof.Proof.Gen.ReferenceIdeal.Read
public import proofs.«01_k».proof.Proof.Router

@[expose] public section

noncomputable section

namespace Cert.ReferenceIdeal.Tokens

open Cert.ReferenceIdeal Cert.ReferenceIdeal.Gen Cert.ReferenceIdeal.Read Idealize.ShloMosaic Idealize.ShloMosaic.ValueIdx
open Idealize.ShloMosaic.TcCoe Idealize.SL.Sem
open Cert.Select Cert.Weights Cert.Router

/-! ## The eight greatest of a row -/

/-- Place `r` of the sort of row `n` is the position the `r`-th round chooses, when the sorted values are ordered as `l` is. -/
theorem sorted_row (s : FVec Ideal S8192x64 .f32) (n : Fin 8192) (l : Fin 64 → EReal) (hl : ∀ e, l e ≠ ⊥)
    (hs : ∀ a b, s (ix2 n b) < s (ix2 n a) ↔ l b < l a) (r : Fin 64) :
    sortedFrom (fun a b : Fin 64 => FloatOps.cmpfTotal (F := Ideal) .gt (s ((ix2 n r).along 1 a)) (s ((ix2 n r).along 1 b)) == 1#1) r
      = pick l r.val := by
  have hk : ∀ a : Fin 64, (ix2 n r : S8192x64.Idx).along 1 a = ix2 n a := fun a => by
    funext d
    match d with
    | ⟨0, _⟩ => rfl
    | ⟨1, _⟩ => rfl
  have he : (fun a b : Fin 64 => FloatOps.cmpfTotal (F := Ideal) .gt (s ((ix2 n r).along 1 a)) (s ((ix2 n r).along 1 b)) == 1#1)
      = fun a b => decide (s (ix2 n b) < s (ix2 n a)) := by
    funext a b
    rw [hk, hk]
    show (BitVec.ofBool (decide (s (ix2 n b) < s (ix2 n a))) == 1#1) = _
    cases decide (s (ix2 n b) < s (ix2 n a)) <;> rfl
  rw [he]
  exact sortedFrom_eq_pick l hl (fun e => s (ix2 n e)) hs r

/-- THE EIGHT GREATEST of row `n`: at place `r` the value at the position the `r`-th round chooses, and that position. -/
theorem topK_row (s : FVec Ideal S8192x64 .f32) (n : Fin 8192) (l : Fin 64 → EReal) (hl : ∀ e, l e ≠ ⊥)
    (hs : ∀ a b, s (ix2 n b) < s (ix2 n a) ↔ l b < l a) (r : Fin 8) :
    (Host.topK S8192x8 1 (FloatOps.cmpfTotal (F := Ideal) .gt) s sliceFits_S8192x64_S8192x8).1 (ix2 n r) = s (ix2 n (pick l r.val))
    ∧ (Host.topK S8192x8 1 (FloatOps.cmpfTotal (F := Ideal) .gt) s sliceFits_S8192x64_S8192x8).2 (ix2 n r) = expertAt l r := by
  have hr : r.val < 64 := by have := r.isLt; omega
  have hj : ∀ a : Fin S8192x64.rank, ((ix2 n (⟨r.val, hr⟩ : Fin 64) : S8192x64.Idx) a).val
      = 0 + ((ix2 n r : S8192x8.Idx) (a.cast sliceFits_S8192x64_S8192x8.1.symm)).val := fun a => match a with
    | ⟨0, _⟩ => (Nat.zero_add _).symm
    | ⟨1, _⟩ => (Nat.zero_add _).symm
  have hsort := sorted_row s n l hl hs ⟨r.val, hr⟩
  have hp : ∀ p : Fin 64, (ix2 n (⟨r.val, hr⟩ : Fin 64) : S8192x64.Idx).along 1 p = ix2 n p := fun p => by
    funext d
    match d with
    | ⟨0, _⟩ => rfl
    | ⟨1, _⟩ => rfl
  unfold Host.topK
  dsimp only
  constructor
  · refine (extractStridedSlice_apply (fun _ => 0) _ sliceFits_S8192x64_S8192x8 (ix2 n r) (ix2 n (⟨r.val, hr⟩ : Fin 64)) hj).trans ?_
    unfold Host.sort2
    rw [dif_pos (by decide)]
    refine Eq.trans ?_ (congrArg s (hp _))
    exact congrArg (fun p : Fin 64 => s ((ix2 n (⟨r.val, hr⟩ : Fin 64) : S8192x64.Idx).along 1 p)) hsort
  · refine (extractStridedSlice_apply (fun _ => 0) _ sliceFits_S8192x64_S8192x8 (ix2 n r) (ix2 n (⟨r.val, hr⟩ : Fin 64)) hj).trans ?_
    unfold Host.sort2
    rw [dif_pos (by decide)]
    dsimp only
    rw [dif_pos (by decide)]
    refine (congrArg (iotaInDim S8192x64 32 1) ((congrArg _ hsort).trans (hp _))).trans ?_
    unfold iotaInDim expertAt
    rfl

/-! ## The softmax of a row -/

variable (x0 : (⟨S4x2048x4096, .f32⟩ : BufTy).Contents (Elt Ideal)) (x1 : (⟨S64x4096, .f32⟩ : BufTy).Contents (Elt Ideal))

/-- The logits of token `n`. -/
def lg (n : Fin 8192) : Fin 64 → EReal := logit (val_main_v0 (F := Ideal) x0 : S8192x4096.Idx → EReal) (x1 : S64x4096.Idx → EReal) n

theorem logits_apply (n : Fin 8192) (e : Fin 64) : val_main_v4 (F := Ideal) x0 x1 (ix2 n e) = lg x0 x1 n e := by
  rw [val_main_v4_apply, val_main_v3_apply, val_main_cst_apply, val_main_v2_apply]
  show Ideal.div _ (Ideal.ofBits .f32 0x3F800000#32) = _
  have h1 : Ideal.ofBits .f32 0x3F800000#32 = ((1 : ℝ) : EReal) := by simp [Ideal.ofBits, Ideal.ieee, -EReal.coe_mul]; norm_num
  rw [h1, Ideal.div_coe one_ne_zero, div_one, EReal.coe_one, mul_one]
  unfold lg logit
  refine Finset.sum_congr rfl fun k _ => ?_
  rw [val_main_v1_apply, mul_comm]
  refine congrArg₂ (· * ·) (congrArg x1 ?_) (congrArg (val_main_v0 (F := Ideal) x0) ?_) <;> funext a <;> match a with
    | ⟨0, _⟩ => rfl
    | ⟨1, _⟩ => rfl

/-- The greatest logit of the row, which the softmax takes off every logit. -/
theorem greatest_apply (n : Fin 8192) : val_main_v7 (F := Ideal) x0 x1 (ix1 n) = lg x0 x1 n (pick (lg x0 x1 n) 0) := by
  have hbot : Ideal.ofBits .f32 0xFF800000#32 = ⊥ := by simp [Ideal.ofBits, Ideal.ieee]
  have h5 : val_main_v5 (F := Ideal) x0 x1 (ix1 n) = Finset.univ.fold max ⊥ (lg x0 x1 n) := by
    unfold val_main_v5
    refine (Host.reduce_eq_fold_single (FloatOps.maximumf (F := Ideal) (φ := .f32)) _ _ reducesTo_S8192x64_S8192_d1 (by decide) h_S_ (ix1 n)).trans ?_
    rw [val_main_cst_0_apply]
    show Finset.univ.fold max (Ideal.ofBits .f32 0xFF800000#32) _ = _
    rw [hbot]
    refine Finset.fold_congr fun e _ => ?_
    refine Eq.trans ?_ (logits_apply x0 x1 n e)
    refine congrArg (val_main_v4 (F := Ideal) x0 x1) ?_
    funext a
    match a with
    | ⟨0, _⟩ => rfl
    | ⟨1, _⟩ => rfl
  rw [val_main_v7_apply, h5, val_main_v6_apply, val_main_cst_1_apply, fold_max_eq]
  show max (Ideal.ofBits .f32 0xFF800000#32) _ = _
  rw [hbot, max_eq_right bot_le]
  rfl

theorem expo_apply (n : Fin 8192) (e : Fin 64) :
    val_main_v11 (F := Ideal) x0 x1 (ix2 n e) = expo (lg x0 x1 n) (lg x0 x1 n (pick (lg x0 x1 n) 0)) e := by
  rw [val_main_v11_apply, val_main_v10_apply, logits_apply, val_main_v9_apply, val_main_v8_apply]
  have hi : idx_main_v8 (idx_main_v9 (ix2 n e)) = ix1 n := by
    funext a
    match a with
    | ⟨0, _⟩ => rfl
  rw [hi, greatest_apply]
  rfl

/-- THE SOFTMAX of the row. -/
theorem score_apply (n : Fin 8192) (e : Fin 64) :
    val_main_v15 (F := Ideal) x0 x1 (ix2 n e) = score (lg x0 x1 n) (lg x0 x1 n (pick (lg x0 x1 n) 0)) e := by
  rw [val_main_v15_apply, expo_apply, val_main_v14_apply, val_main_v13_apply, val_main_v12_apply, val_main_cst_2_apply]
  show Ideal.div _ (Ideal.ofBits .f32 0x00000000#32 + _) = _
  rw [Ideal.ofBits_zero_f32, zero_add]
  unfold score
  refine congrArg (Ideal.div _) (Finset.sum_congr rfl fun k _ => ?_)
  refine Eq.trans (congrArg (val_main_v11 (F := Ideal) x0 x1) ?_) (expo_apply x0 x1 n k)
  funext a
  match a with
  | ⟨0, _⟩ => rfl
  | ⟨1, _⟩ => rfl

/-! ## The results -/

variable (hreal : ∀ n e, ∃ x : ℝ, lg x0 x1 n e = (x : EReal))
include hreal

theorem lg_ne_bot (n : Fin 8192) (e : Fin 64) : lg x0 x1 n e ≠ ⊥ := by
  obtain ⟨x, hx⟩ := hreal n e
  rw [hx]
  exact EReal.coe_ne_bot x

/-- The softmax orders the experts of a token as the logits do. -/
theorem score_order (n : Fin 8192) (a b : Fin 64) :
    val_main_v15 (F := Ideal) x0 x1 (ix2 n b) < val_main_v15 (F := Ideal) x0 x1 (ix2 n a) ↔ lg x0 x1 n b < lg x0 x1 n a := by
  choose f hf using hreal
  have hl : lg x0 x1 n = fun e => (f n e : EReal) := funext (hf n)
  rw [score_apply, score_apply, hl]
  exact score_lt_iff (f n) _ a b

/-- THE FIRST RESULT: the tokens' experts. -/
theorem indices_eq : val_main_indices (F := Ideal) x0 x1
    = experts (val_main_v0 (F := Ideal) x0 : S8192x4096.Idx → EReal) (x1 : S64x4096.Idx → EReal) := by
  funext i
  obtain ⟨n, r, rfl⟩ : ∃ n r, i = ix2 n r := ⟨i 0, i 1, eq_ix2 i⟩
  exact (topK_row _ n (lg x0 x1 n) (lg_ne_bot x0 x1 hreal n) (score_order x0 x1 hreal n) r).2

theorem values_apply (n : Fin 8192) (r : Fin 8) : val_main_values (F := Ideal) x0 x1 (ix2 n r)
    = score (lg x0 x1 n) (lg x0 x1 n (pick (lg x0 x1 n) 0)) (pick (lg x0 x1 n) r.val) :=
  (topK_row _ n (lg x0 x1 n) (lg_ne_bot x0 x1 hreal n) (score_order x0 x1 hreal n) r).1.trans (score_apply x0 x1 n _)

/-- THE SECOND RESULT: the tokens' weights. -/
theorem weights_eq : val_main_v19 (F := Ideal) x0 x1
    = Router.weights (val_main_v0 (F := Ideal) x0 : S8192x4096.Idx → EReal) (x1 : S64x4096.Idx → EReal) := by
  funext i
  obtain ⟨n, r, rfl⟩ : ∃ n r, i = ix2 n r := ⟨i 0, i 1, eq_ix2 i⟩
  rw [val_main_v19_apply, values_apply x0 x1 hreal, val_main_v18_apply, val_main_v17_apply, val_main_v16_apply, val_main_cst_3_apply]
  have hsum : ∑ k : Fin 8, val_main_values (F := Ideal) x0 x1 (idx_main_v16 (idx_main_v17 (idx_main_v18 (ix2 n r))) k)
      = ∑ k : Fin 8, score (lg x0 x1 n) (lg x0 x1 n (pick (lg x0 x1 n) 0)) (pick (lg x0 x1 n) k.val) :=
    Finset.sum_congr rfl fun k _ => by
      refine Eq.trans (congrArg (val_main_values (F := Ideal) x0 x1) ?_) (values_apply x0 x1 hreal n k)
      funext a
      match a with
      | ⟨0, _⟩ => rfl
      | ⟨1, _⟩ => rfl
  rw [hsum]
  show Ideal.div _ (Ideal.ofBits .f32 0x00000000#32 + _) = weightAt (lg x0 x1 n) r
  rw [Ideal.ofBits_zero_f32, zero_add]
  show shareOf (score (lg x0 x1 n) (lg x0 x1 n (pick (lg x0 x1 n) 0))) (fun i : Fin 8 => pick (lg x0 x1 n) i.val) r = _
  choose f hf using hreal
  have hl : lg x0 x1 n = fun e => (f n e : EReal) := funext (hf n)
  unfold weightAt
  rw [hl]
  exact shareOf_score (f n) _ _ r

end Cert.ReferenceIdeal.Tokens

end
-- ==== Proof.Finite.lean ====
/-
  The precondition `finite`, over the extended reals: when it holds, every entry of the two arguments is a real number, and
  so is every logit.
-/
module

public import proofs.«01_k».proof.Pre_finite
public import proofs.«01_k».proof.Proof.Router
public import Idealize.ShloMosaic.Lib.ReduceAll

@[expose] public section

noncomputable section

namespace Cert.Finite

open Idealize.ShloMosaic Idealize.ShloMosaic.ValueIdx Cert.Pre_finite

/-- What the predicate's text takes for granted of its shapes. -/
theorem facts : Cert.Pre_finite.Facts where
  bcast_S_S4x2048x4096 := by decide
  reducesTo_S4x2048x4096_S_d0_1_2 := by decide
  h_S_ := by decide
  bcast_S_S64x4096 := by decide
  reducesTo_S64x4096_S_d0_1 := by decide

/-- An extended real whose absolute value is below +∞ is a real number. -/
theorem real_of_abs_lt (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  have hlt : max x (-x) < ⊤ := by
    by_contra hn
    have h' : BitVec.ofBool (decide (max x (-x) < ⊤)) = 1#1 := h
    rw [decide_eq_false hn] at h'
    exact absurd h' (by decide)
  induction x with
  | bot => simp at hlt
  | top => simp at hlt
  | coe r => exact ⟨r, rfl⟩

/-- There is one index of rank 0. -/
instance : Subsingleton S_.Idx := ⟨fun _ _ => funext fun a => a.elim0⟩

variable [Cert.Pre_finite.Facts]

/-- THE PRECONDITION gives real numbers for the entries of both arguments. -/
theorem entries_real (x : FVec Ideal S4x2048x4096 .f32) (w : FVec Ideal S64x4096 .f32)
    (h : Cert.Pre_finite.fn (F := Ideal) x w = fun _ => 1#1) :
    (∀ i, ∃ r : ℝ, x i = (r : EReal)) ∧ ∀ i, ∃ r : ℝ, w i = (r : EReal) := by
  have h0 := congrFun h (fun a => a.elim0)
  unfold Cert.Pre_finite.fn at h0
  obtain ⟨hx, hw⟩ := IntOp.andi_eq_one.1 h0
  exact ⟨fun i => real_of_abs_lt _ (Host.reduce_andi_all _ _ _ _ _ hx i), fun i => real_of_abs_lt _ (Host.reduce_andi_all _ _ _ _ _ hw i)⟩

omit [Cert.Pre_finite.Facts] in
/-- The logits of real tokens and real rows are real numbers. -/
theorem logit_real {N : Nat} (X : (⟨2, ![N, 4096]⟩ : Shape).Idx → EReal) (W : (⟨2, ![64, 4096]⟩ : Shape).Idx → EReal)
    (hX : ∀ i, ∃ r : ℝ, X i = (r : EReal)) (hW : ∀ i, ∃ r : ℝ, W i = (r : EReal)) (n : Fin N) (e : Fin 64) :
    ∃ r : ℝ, Cert.Router.logit X W n e = (r : EReal) := by
  choose f hf using hX
  choose g hg using hW
  refine ⟨∑ k : Fin 4096, g (ix2 e k) * f (ix2 n k), ?_⟩
  unfold Cert.Router.logit
  rw [← Cert.Weights.coe_sum]
  refine Finset.sum_congr rfl fun k _ => ?_
  rw [hf, hg, EReal.coe_mul]

end Cert.Finite

end
-- ==== Proof.lean ====
/-
  The certificate: the two programs' frames, and that over the extended reals, where every entry of the arguments is a real
  number, the kernel and the reference end with the same experts and the same weights.
-/
module

public import proofs.«01_k».proof.Defs
public import proofs.«01_k».proof.Proof.Gen.Kernel.Frame
public import proofs.«01_k».proof.Proof.KernelValue
public import proofs.«01_k».proof.Proof.RefValue
public import proofs.«01_k».proof.Proof.Finite
public import Idealize.ShloMosaic.Adequacy
public import Idealize.ShloMosaic.Init
public import Idealize.ShloMosaic.Lib.Quiescent

@[expose] public section

noncomputable section

namespace Cert.Proof

open Idealize.ShloMosaic Idealize.SL.Sem

/-- The reference leaves its arguments as they were and every counter at zero (it has none). -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run Cert.ReferenceIdeal.defs _ _).mono
    (fun r h => ⟨fun c => (h c).2.2, sem_eq_zero_of_no_sems (by decide) r.2⟩)
    (Cert.ReferenceIdeal.Value.run (F := Ideal) m g)

/-- The kernel's program and the reference's run the first argument's batch and position axes together alike. -/
theorem tokens_eq (x : (⟨Cert.ReferenceIdeal.S4x2048x4096, .f32⟩ : BufTy).Contents (Elt Ideal)) :
    Cert.ReferenceIdeal.Read.val_main_v0 (F := Ideal) x
      = shapeCast Cert.KernelIdeal.S8192x4096 x Cert.KernelIdeal.Gen.facts.shapeCasts_S4x2048x4096_S8192x4096 := rfl

/-- THE EQUATION: from memories that agree on the arguments, all real numbers, the kernel and the reference end with the
    same experts and the same weights, namely those of the tokens. -/
theorem algebraic : Cert.algebraic_KernelIdeal_ReferenceIdeal_pre_finite (hKernelIdeal := Cert.KernelIdeal.Gen.facts)
    (hReferenceIdeal := Cert.ReferenceIdeal.Gen.facts) (hPre_finite := Cert.Finite.facts) := by
  intro m g m' g' hpre hagree
  haveI := Cert.Finite.facts
  have hreal := fun c => Cert.Finite.entries_real _ _ (hpre c)
  have hlogit : ∀ c p e, ∃ r : ℝ, Cert.Router.logit (Cert.KernelIdeal.Block.tokens m c) (Cert.KernelIdeal.Block.rowsOf m c) p e = (r : EReal) :=
    fun c p e => Cert.Finite.logit_real _ _ (fun i => (hreal c).1 _) (fun i => (hreal c).2 i) p e
  refine ⟨fun c => Cert.Router.experts (Cert.KernelIdeal.Block.tokens m c) (Cert.KernelIdeal.Block.rowsOf m c),
    fun c => Cert.Router.weights (Cert.KernelIdeal.Block.tokens m c) (Cert.KernelIdeal.Block.rowsOf m c), ?_, ?_⟩
  · exact Cert.KernelIdeal.Block.run_value m g fun c p e => by
      obtain ⟨r, hr⟩ := hlogit c p e
      rw [hr]
      exact EReal.coe_ne_bot r
  · refine (θ_run Cert.ReferenceIdeal.defs _ _).mono (fun r h c => ⟨(h c).1.trans ?_, (h c).2.1.trans ?_, (h c).2.2⟩)
      (Cert.ReferenceIdeal.Value.run (F := Ideal) m' g')
    · rw [(hagree c).1, (hagree c).2]
      exact (Cert.ReferenceIdeal.Read.val_main_indices_eq _ _).trans (Cert.ReferenceIdeal.Tokens.indices_eq _ _ (hlogit c))
    · rw [Cert.ReferenceIdeal.Read.val_main_v19_eq, (hagree c).1, (hagree c).2]
      exact Cert.ReferenceIdeal.Tokens.weights_eq _ _ (hlogit c)

theorem claim : Cert.Claim := ⟨Cert.Kernel.Gen.facts, Cert.KernelIdeal.Gen.facts, Cert.ReferenceIdeal.Gen.facts, Cert.Finite.facts,
  fun m ρ _ => Cert.Kernel.Gen.frame m ρ, fun m ρ _ => Cert.KernelIdeal.Gen.frame m ρ, fun m ρ _ => Cert.KernelIdeal.Gen.frame m ρ,
  fun m g _ => frame_reference m g, fun m g _ => frame_reference m g, trivial, algebraic⟩

end Cert.Proof

end
